-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512x192 : Shape := ⟨4, ![1, 512, 512, 192]⟩
abbrev S1x300x4 : Shape := ⟨3, ![1, 300, 4]⟩
abbrev S1x1x512x192 : Shape := ⟨4, ![1, 1, 512, 192]⟩
abbrev S1x300x7x7x192 : Shape := ⟨5, ![1, 300, 7, 7, 192]⟩
abbrev S1x50x7x7x192 : Shape := ⟨5, ![1, 50, 7, 7, 192]⟩
abbrev S1x50x4 : Shape := ⟨3, ![1, 50, 4]⟩
abbrev S50x4 : Shape := ⟨2, ![50, 4]⟩
abbrev S50x1 : Shape := ⟨2, ![50, 1]⟩
abbrev S1x7 : Shape := ⟨2, ![1, 7]⟩
abbrev S50x7 : Shape := ⟨2, ![50, 7]⟩
abbrev S1x50x7 : Shape := ⟨3, ![1, 50, 7]⟩
abbrev S1 : Shape := ⟨1, ![1]⟩
abbrev S1x1x1 : Shape := ⟨3, ![1, 1, 1]⟩
abbrev S512x192 : Shape := ⟨2, ![512, 192]⟩
abbrev S50x512 : Shape := ⟨2, ![50, 512]⟩
abbrev S50x192 : Shape := ⟨2, ![50, 192]⟩
abbrev S1x50x1x1x192 : Shape := ⟨5, ![1, 50, 1, 1, 192]⟩

abbrev nBuf : Space → Nat
  | .hbm => 4
  | .vmem => 4
  | .smem => 0
  | _ => 0

abbrev bufTy : (tb : Table) → Fin (tcTables nBuf tb) → BufTy
  | .hbm, ⟨0, _⟩ => ⟨S1x512x512x192, .f32⟩
  | .hbm, ⟨1, _⟩ => ⟨S1x300x4, .f32⟩
  | .hbm, ⟨2, _⟩ => ⟨S1x1x512x192, .f32⟩
  | .hbm, ⟨3, _⟩ => ⟨S1x300x7x7x192, .f32⟩
  | .local _ .vmem, ⟨0, _⟩ => ⟨S1x300x4, .f32⟩
  | .local _ .vmem, ⟨1, _⟩ => ⟨S1x1x512x192, .f32⟩
  | .local _ .vmem, ⟨2, _⟩ => ⟨S1x50x7x7x192, .f32⟩
  | .local _ .vmem, ⟨3, _⟩ => ⟨S1x50x7x7x192, .f32⟩
  | _, _ => ⟨S1x512x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![6], ![false]⟩

def k0_off1 (i : grid0.Coords) : Fin 3 → Nat :=
  let c0 : Index := 0#32
  let arg0 : BitVec 32 := BitVec.ofNat 32 (i 0).val
  let c50_i32 : BitVec 32 := 50#32
  let v0 : BitVec 32 := Scalar.muli arg0 c50_i32
  let v1 : Index := Scalar.indexCast v0
  let c0_0 : Index := 0#32
  ![0, v1.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 1 → Memref sig .tc .vmem S1x300x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x512x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x50x7x7x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x512x512x192 : Shape := ⟨4, ![1, 512, 512, 192]⟩
abbrev S1x300x4 : Shape := ⟨3, ![1, 300, 4]⟩
abbrev S1x300x1 : Shape := ⟨3, ![1, 300, 1]⟩
abbrev S300 : Shape := ⟨1, ![300]⟩
abbrev S_ : Shape := ⟨0, ![]⟩
abbrev S300x1 : Shape := ⟨2, ![300, 1]⟩
abbrev S300x4 : Shape := ⟨2, ![300, 4]⟩
abbrev S7 : Shape := ⟨1, ![7]⟩
abbrev S1x7 : Shape := ⟨2, ![1, 7]⟩
abbrev S300x7 : Shape := ⟨2, ![300, 7]⟩
abbrev S300x7x1x1 : Shape := ⟨4, ![300, 7, 1, 1]⟩
abbrev S300x1x7x1 : Shape := ⟨4, ![300, 1, 7, 1]⟩
abbrev S512x512x192 : Shape := ⟨3, ![512, 512, 192]⟩
abbrev S300x7x1 : Shape := ⟨3, ![300, 7, 1]⟩
abbrev S300x1x7 : Shape := ⟨3, ![300, 1, 7]⟩
abbrev S300x7x7 : Shape := ⟨3, ![300, 7, 7]⟩
abbrev S300x7x7x1 : Shape := ⟨4, ![300, 7, 7, 1]⟩
abbrev S300x7x7x2 : Shape := ⟨4, ![300, 7, 7, 2]⟩
abbrev S300x7x7x192 : Shape := ⟨4, ![300, 7, 7, 192]⟩
abbrev S1x300x7x7x192 : Shape := ⟨5, ![1, 300, 7, 7, 192]⟩

abbrev nBuf : Space → Nat
  | .hbm => 239
  | .vmem => 0
  | .smem => 0
  | _ => 0

abbrev hbmTy0_0 (i : Nat) : BufTy := match i % 128 with
  | 0 => ⟨S1x512x512x192, .f32⟩
  | 1 => ⟨S1x300x4, .f32⟩
  | 2 => ⟨S1x300x1, .f32⟩
  | 3 => ⟨S300, .f32⟩
  | 4 => ⟨S1x300x1, .f32⟩
  | 5 => ⟨S300, .f32⟩
  | 6 => ⟨S1x300x1, .f32⟩
  | 7 => ⟨S300, .f32⟩
  | 8 => ⟨S1x300x1, .f32⟩
  | 9 => ⟨S300, .f32⟩
  | 10 => ⟨S_, .f32⟩
  | 11 => ⟨S_, .f32⟩
  | 12 => ⟨S_, .f32⟩
  | 13 => ⟨S300, .f32⟩
  | 14 => ⟨S300, .f32⟩
  | 15 => ⟨S_, .f32⟩
  | 16 => ⟨S_, .f32⟩
  | 17 => ⟨S_, .f32⟩
  | 18 => ⟨S300, .f32⟩
  | 19 => ⟨S300, .f32⟩
  | 20 => ⟨S300, .f32⟩
  | 21 => ⟨S_, .f32⟩
  | 22 => ⟨S_, .f32⟩
  | 23 => ⟨S_, .f32⟩
  | 24 => ⟨S300, .f32⟩
  | 25 => ⟨S300, .f32⟩
  | 26 => ⟨S300, .f32⟩
  | 27 => ⟨S_, .f32⟩
  | 28 => ⟨S_, .f32⟩
  | 29 => ⟨S_, .f32⟩
  | 30 => ⟨S300, .f32⟩
  | 31 => ⟨S300, .f32⟩
  | 32 => ⟨S300x1, .f32⟩
  | 33 => ⟨S300x1, .f32⟩
  | 34 => ⟨S300x1, .f32⟩
  | 35 => ⟨S300x1, .f32⟩
  | 36 => ⟨S300x4, .f32⟩
  | 37 => ⟨S300x1, .f32⟩
  | 38 => ⟨S300, .f32⟩
  | 39 => ⟨S300x1, .f32⟩
  | 40 => ⟨S300, .f32⟩
  | 41 => ⟨S300x1, .f32⟩
  | 42 => ⟨S300, .f32⟩
  | 43 => ⟨S300x1, .f32⟩
  | 44 => ⟨S300, .f32⟩
  | 45 => ⟨S7, .f32⟩
  | 46 => ⟨S300, .f32⟩
  | 47 => ⟨S_, .f32⟩
  | 48 => ⟨S300, .f32⟩
  | 49 => ⟨S300, .f32⟩
  | 50 => ⟨S_, .f32⟩
  | 51 => ⟨S300, .f32⟩
  | 52 => ⟨S300, .f32⟩
  | 53 => ⟨S300, .f32⟩
  | 54 => ⟨S_, .f32⟩
  | 55 => ⟨S300, .f32⟩
  | 56 => ⟨S300, .f32⟩
  | 57 => ⟨S_, .f32⟩
  | 58 => ⟨S300, .f32⟩
  | 59 => ⟨S300, .f32⟩
  | 60 => ⟨S300x1, .f32⟩
  | 61 => ⟨S_, .f32⟩
  | 62 => ⟨S300x1, .f32⟩
  | 63 => ⟨S300x1, .f32⟩
  | 64 => ⟨S1x7, .f32⟩
  | 65 => ⟨S300x1, .f32⟩
  | 66 => ⟨S300x7, .f32⟩
  | 67 => ⟨S300x7, .f32⟩
  | 68 => ⟨S300x7, .f32⟩
  | 69 => ⟨S300x7, .f32⟩
  | 70 => ⟨S300x7, .f32⟩
  | 71 => ⟨S300x1, .f32⟩
  | 72 => ⟨S_, .f32⟩
  | 73 => ⟨S300x1, .f32⟩
  | 74 => ⟨S300x1, .f32⟩
  | 75 => ⟨S1x7, .f32⟩
  | 76 => ⟨S300x1, .f32⟩
  | 77 => ⟨S300x7, .f32⟩
  | 78 => ⟨S300x7, .f32⟩
  | 79 => ⟨S300x7, .f32⟩
  | 80 => ⟨S300x7, .f32⟩
  | 81 => ⟨S300x7, .f32⟩
  | 82 => ⟨S300x7, .f32⟩
  | 83 => ⟨S_, .f32⟩
  | 84 => ⟨S300x7, .f32⟩
  | 85 => ⟨S300x7, .i1⟩
  | 86 => ⟨S_, .f32⟩
  | 87 => ⟨S300x7, .f32⟩
  | 88 => ⟨S300x7, .i1⟩
  | 89 => ⟨S300x7, .i1⟩
  | 90 => ⟨S_, .f32⟩
  | 91 => ⟨S300x7, .f32⟩
  | 92 => ⟨S300x7, .i1⟩
  | 93 => ⟨S300x7, .i1⟩
  | 94 => ⟨S300x7, .f32⟩
  | 95 => ⟨S_, .f32⟩
  | 96 => ⟨S300x7, .f32⟩
  | 97 => ⟨S300x7, .i1⟩
  | 98 => ⟨S_, .f32⟩
  | 99 => ⟨S300x7, .f32⟩
  | 100 => ⟨S300x7, .i1⟩
  | 101 => ⟨S300x7, .i1⟩
  | 102 => ⟨S_, .f32⟩
  | 103 => ⟨S300x7, .f32⟩
  | 104 => ⟨S300x7, .i1⟩
  | 105 => ⟨S300x7, .i1⟩
  | 106 => ⟨S_, .f32⟩
  | 107 => ⟨S_, .f32⟩
  | 108 => ⟨S300x7, .f32⟩
  | 109 => ⟨S300x7, .f32⟩
  | 110 => ⟨S_, .f32⟩
  | 111 => ⟨S_, .f32⟩
  | 112 => ⟨S300x7, .f32⟩
  | 113 => ⟨S300x7, .f32⟩
  | 114 => ⟨S300x7, .f32⟩
  | 115 => ⟨S300x7, .f32⟩
  | 116 => ⟨S300x7, .f32⟩
  | 117 => ⟨S300x7, .f32⟩
  | 118 => ⟨S300x7, .f32⟩
  | 119 => ⟨S300x7x1x1, .f32⟩
  | 120 => ⟨S300x7, .f32⟩
  | 121 => ⟨S300x1x7x1, .f32⟩
  | 122 => ⟨S300x7, .i32⟩
  | 123 => ⟨S300x7, .i32⟩
  | 124 => ⟨S300x7, .i32⟩
  | 125 => ⟨S300x7, .i32⟩
  | 126 => ⟨S512x512x192, .f32⟩
  | 127 => ⟨S300x7x1, .i32⟩
  | _ => ⟨S1x512x512x192, .f32⟩

abbrev hbmTy0_1 (i : Nat) : BufTy := match i % 128 with
  | 0 => ⟨S300x1x7, .i32⟩
  | 1 => ⟨S_, .i32⟩
  | 2 => ⟨S300x7x1, .i32⟩
  | 3 => ⟨S300x7x1, .i1⟩
  | 4 => ⟨S_, .i32⟩
  | 5 => ⟨S300x7x1, .i32⟩
  | 6 => ⟨S300x7x1, .i32⟩
  | 7 => ⟨S300x7x1, .i32⟩
  | 8 => ⟨S_, .i32⟩
  | 9 => ⟨S300x1x7, .i32⟩
  | 10 => ⟨S300x1x7, .i1⟩
  | 11 => ⟨S_, .i32⟩
  | 12 => ⟨S300x1x7, .i32⟩
  | 13 => ⟨S300x1x7, .i32⟩
  | 14 => ⟨S300x1x7, .i32⟩
  | 15 => ⟨S300x7x7, .i32⟩
  | 16 => ⟨S300x7x7, .i32⟩
  | 17 => ⟨S300x7x7x1, .i32⟩
  | 18 => ⟨S300x7x7x1, .i32⟩
  | 19 => ⟨S300x7x7x2, .i32⟩
  | 20 => ⟨S300x7x7x192, .f32⟩
  | 21 => ⟨S300x7x1, .i32⟩
  | 22 => ⟨S300x1x7, .i32⟩
  | 23 => ⟨S_, .i32⟩
  | 24 => ⟨S300x7x1, .i32⟩
  | 25 => ⟨S300x7x1, .i1⟩
  | 26 => ⟨S_, .i32⟩
  | 27 => ⟨S300x7x1, .i32⟩
  | 28 => ⟨S300x7x1, .i32⟩
  | 29 => ⟨S300x7x1, .i32⟩
  | 30 => ⟨S_, .i32⟩
  | 31 => ⟨S300x1x7, .i32⟩
  | 32 => ⟨S300x1x7, .i1⟩
  | 33 => ⟨S_, .i32⟩
  | 34 => ⟨S300x1x7, .i32⟩
  | 35 => ⟨S300x1x7, .i32⟩
  | 36 => ⟨S300x1x7, .i32⟩
  | 37 => ⟨S300x7x7, .i32⟩
  | 38 => ⟨S300x7x7, .i32⟩
  | 39 => ⟨S300x7x7x1, .i32⟩
  | 40 => ⟨S300x7x7x1, .i32⟩
  | 41 => ⟨S300x7x7x2, .i32⟩
  | 42 => ⟨S300x7x7x192, .f32⟩
  | 43 => ⟨S300x7x1, .i32⟩
  | 44 => ⟨S300x1x7, .i32⟩
  | 45 => ⟨S_, .i32⟩
  | 46 => ⟨S300x7x1, .i32⟩
  | 47 => ⟨S300x7x1, .i1⟩
  | 48 => ⟨S_, .i32⟩
  | 49 => ⟨S300x7x1, .i32⟩
  | 50 => ⟨S300x7x1, .i32⟩
  | 51 => ⟨S300x7x1, .i32⟩
  | 52 => ⟨S_, .i32⟩
  | 53 => ⟨S300x1x7, .i32⟩
  | 54 => ⟨S300x1x7, .i1⟩
  | 55 => ⟨S_, .i32⟩
  | 56 => ⟨S300x1x7, .i32⟩
  | 57 => ⟨S300x1x7, .i32⟩
  | 58 => ⟨S300x1x7, .i32⟩
  | 59 => ⟨S300x7x7, .i32⟩
  | 60 => ⟨S300x7x7, .i32⟩
  | 61 => ⟨S300x7x7x1, .i32⟩
  | 62 => ⟨S300x7x7x1, .i32⟩
  | 63 => ⟨S300x7x7x2, .i32⟩
  | 64 => ⟨S300x7x7x192, .f32⟩
  | 65 => ⟨S300x7x1, .i32⟩
  | 66 => ⟨S300x1x7, .i32⟩
  | 67 => ⟨S_, .i32⟩
  | 68 => ⟨S300x7x1, .i32⟩
  | 69 => ⟨S300x7x1, .i1⟩
  | 70 => ⟨S_, .i32⟩
  | 71 => ⟨S300x7x1, .i32⟩
  | 72 => ⟨S300x7x1, .i32⟩
  | 73 => ⟨S300x7x1, .i32⟩
  | 74 => ⟨S_, .i32⟩
  | 75 => ⟨S300x1x7, .i32⟩
  | 76 => ⟨S300x1x7, .i1⟩
  | 77 => ⟨S_, .i32⟩
  | 78 => ⟨S300x1x7, .i32⟩
  | 79 => ⟨S300x1x7, .i32⟩
  | 80 => ⟨S300x1x7, .i32⟩
  | 81 => ⟨S300x7x7, .i32⟩
  | 82 => ⟨S300x7x7, .i32⟩
  | 83 => ⟨S300x7x7x1, .i32⟩
  | 84 => ⟨S300x7x7x1, .i32⟩
  | 85 => ⟨S300x7x7x2, .i32⟩
  | 86 => ⟨S300x7x7x192, .f32⟩
  | 87 => ⟨S300x7x7x192, .f32⟩
  | 88 => ⟨S300x7x7x192, .f32⟩
  | 89 => ⟨S300x7x7x192, .f32⟩
  | 90 => ⟨S300x7x7x192, .f32⟩
  | 91 => ⟨S300x7x7x192, .f32⟩
  | 92 => ⟨S300x7x7x192, .f32⟩
  | 93 => ⟨S300x7x7x192, .f32⟩
  | 94 => ⟨S300x7x7x192, .f32⟩
  | 95 => ⟨S300x7x7x192, .f32⟩
  | 96 => ⟨S300x7x7x192, .f32⟩
  | 97 => ⟨S300x7x7x192, .f32⟩
  | 98 => ⟨S300x7x7x192, .f32⟩
  | 99 => ⟨S300x7x1, .i1⟩
  | 100 => ⟨S300x1x7, .i1⟩
  | 101 => ⟨S300x7x7, .i1⟩
  | 102 => ⟨S300x7x7, .i1⟩
  | 103 => ⟨S300x7x7, .i1⟩
  | 104 => ⟨S300x7x7x1, .i1⟩
  | 105 => ⟨S_, .f32⟩
  | 106 => ⟨S_, .f32⟩
  | 107 => ⟨S300x7x7x192, .i1⟩
  | 108 => ⟨S300x7x7x192, .f32⟩
  | 109 => ⟨S300x7x7x192, .f32⟩
  | 110 => ⟨S1x300x7x7x192, .f32⟩
  | _ => ⟨S1x512x512x192, .f32⟩

abbrev hbmTy (i : Nat) : BufTy := match i / 128 with
  | 0 => hbmTy0_0 i
  | 1 => hbmTy0_1 i
  | _ => ⟨S1x512x512x192, .f32⟩

abbrev bufTy : (tb : Table) → Fin (tcTables nBuf tb) → BufTy
  | .hbm, ⟨i, _⟩ => hbmTy i
  | _, _ => ⟨S1x512x512x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_13 : Ref sig .tc := ⟨.hbm, 83, rfl⟩
abbrev main_v67 : Ref sig .tc := ⟨.hbm, 84, rfl⟩
abbrev main_v68 : Ref sig .tc := ⟨.hbm, 85, rfl⟩
abbrev main_cst_14 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_15 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_16 : Ref sig .tc := ⟨.hbm, 95, rfl⟩
abbrev main_v76 : Ref sig .tc := ⟨.hbm, 96, rfl⟩
abbrev main_v77 : Ref sig .tc := ⟨.hbm, 97, rfl⟩
abbrev main_cst_17 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_18 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_19 : Ref sig .tc := ⟨.hbm, 106, rfl⟩
abbrev main_call0_v0 : Ref sig .tc := ⟨.hbm, 107, rfl⟩
abbrev main_call0_v1 : Ref sig .tc := ⟨.hbm, 108, rfl⟩
abbrev main_v84 : Ref sig .tc := ⟨.hbm, 109, rfl⟩
abbrev main_cst_20 : Ref sig .tc := ⟨.hbm, 110, rfl⟩
abbrev main_call1_v0 : Ref sig .tc := ⟨.hbm, 111, rfl⟩
abbrev main_call1_v1 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_c : Ref sig .tc := ⟨.hbm, 129, rfl⟩
abbrev main_v101 : Ref sig .tc := ⟨.hbm, 130, rfl⟩
abbrev main_v102 : Ref sig .tc := ⟨.hbm, 131, rfl⟩
abbrev main_c_21 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_c_22 : Ref sig .tc := ⟨.hbm, 136, rfl⟩
abbrev main_v106 : Ref sig .tc := ⟨.hbm, 137, rfl⟩
abbrev main_v107 : Ref sig .tc := ⟨.hbm, 138, rfl⟩
abbrev main_c_23 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_c_24 : Ref sig .tc := ⟨.hbm, 151, rfl⟩
abbrev main_v119 : Ref sig .tc := ⟨.hbm, 152, rfl⟩
abbrev main_v120 : Ref sig .tc := ⟨.hbm, 153, rfl⟩
abbrev main_c_25 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_c_26 : Ref sig .tc := ⟨.hbm, 158, rfl⟩
abbrev main_v124 : Ref sig .tc := ⟨.hbm, 159, rfl⟩
abbrev main_v125 : Ref sig .tc := ⟨.hbm, 160, rfl⟩
abbrev main_c_27 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_c_28 : Ref sig .tc := ⟨.hbm, 173, rfl⟩
abbrev main_v137 : Ref sig .tc := ⟨.hbm, 174, rfl⟩
abbrev main_v138 : Ref sig .tc := ⟨.hbm, 175, rfl⟩
abbrev main_c_29 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_c_30 : Ref sig .tc := ⟨.hbm, 180, rfl⟩
abbrev main_v142 : Ref sig .tc := ⟨.hbm, 181, rfl⟩
abbrev main_v143 : Ref sig .tc := ⟨.hbm, 182, rfl⟩
abbrev main_c_31 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_c_32 : Ref sig .tc := ⟨.hbm, 195, rfl⟩
abbrev main_v155 : Ref sig .tc := ⟨.hbm, 196, rfl⟩
abbrev main_v156 : Ref sig .tc := ⟨.hbm, 197, rfl⟩
abbrev main_c_33 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_c_34 : Ref sig .tc := ⟨.hbm, 202, rfl⟩
abbrev main_v160 : Ref sig .tc := ⟨.hbm, 203, rfl⟩
abbrev main_v161 : Ref sig .tc := ⟨.hbm, 204, rfl⟩
abbrev main_c_35 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_cst_36 : Ref sig .tc := ⟨.hbm, 233, rfl⟩
abbrev main_call2_v0 : Ref sig .tc := ⟨.hbm, 234, rfl⟩
abbrev main_call2_v1 : Ref sig .tc := ⟨.hbm, 235, rfl⟩
abbrev main_call2_v2 : Ref sig .tc := ⟨.hbm, 236, rfl⟩
abbrev main_v189 : Ref sig .tc := ⟨.hbm, 237, rfl⟩
abbrev main_v190 : Ref sig .tc := ⟨.hbm, 238, rfl⟩

abbrev nD : Nat := 1
abbrev τ : Topo := Topo.v7x

variable {F : FTy → Type} [FloatOps F]
-- ==== Proof.KernelIdealRun.lean ====
/-
  One grid point of the idealized kernel, run symbolically at any value instance `F`. From the two staged inputs and the
  output's buffer, whatever it holds, the body ends with the inputs as they were and the output at contents that do not
  depend on what was there. Where the branch that samples the image row is not taken, the output is the zero fill.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- The contents of memref `M`'s buffer on core `c`. -/
abbrev Held (c : Dev nD) {sp : Space} {S : Shape} {e : EltTy} (M : Memref sig .tc sp S e) : Type :=
  Buf (Elt F) (M.view.loc (c : Thread nD τ))
/-- Memref `M`'s buffer on core `c`, held whole at the contents `f`. -/
abbrev holds (c : Dev nD) {sp : Space} {S : Shape} {e : EltTy} (M : Memref sig .tc sp S e) (f : Held (F := F) c M) : sProp 𝕄 :=
  M.view.loc (c : Thread nD τ) ↦[M.view.set]{fullShare} f

/-- Whether the body samples: the test it makes on the block `r` of fifty regions of interest, that some
    sample's row coordinate is finite and inside the image. -/
abbrev samples (r : Vec F S1x50x4 .f32) : Prop :=
  Scalar.cmpi .ne
    (Scalar.extui (Scalar.cmpf .ogt (k0_pay4 (k0_pay84 r) (k0_pay86 r) (constantI S50x7 1 1#1)) (Scalar.ofBits .f32 0x00000000#32)) : BitVec 32) 0#32 = 1#1

/-- The block of regions of interest the body at grid point `i` loads from the contents `f1` of its first operand. -/
abbrev roisAt (c : Dev nD) (i : grid0.Coords) (M1 : Memref sig .tc .vmem S1x300x4 .f32) (f1 : Held (F := F) c M1) :
    Vec F S1x50x4 .f32 :=
  M1.view.readAt (Elt F) (Rect.unit (s := S1x300x4) (k0_off1 i) S1x50x4.size (k0_off1_inb i)).toLoadRect f1

set_option maxHeartbeats 4000000 in
/-- What the body leaves in the output block's buffer, as a function of what was there, with the proof that the body,
    from its three operands' buffers, runs to its return and leaves the two inputs as they were and the output so;
    that what it leaves there reads the same whatever was there; and that it reads zero throughout when the body
    does not sample. -/
def bodyRun (c : Dev nD) (i : grid0.Coords)
    (M1 : Memref sig .tc .vmem S1x300x4 .f32) (h1 : M1.IsWhole) (M2 : Memref sig .tc .vmem S1x1x512x192 .f32) (h2 : M2.IsWhole)
    (M3 : Memref sig .tc .vmem S1x50x7x7x192 .f32) (h3 : M3.IsWhole)
    (f1 : Held (F := F) c M1) (f2 : Held (F := F) c M2) :
    { W : Held (F := F) c M3 → Held (F := F) c M3 //
      (∀ (f3 : Held (F := F) c M3) (E : Set ℕ) (Q : PUnit → sProp 𝕄),
        iprop(holds c M1 f1 ∗ holds c M2 f2 ∗ holds c M3 f3
          ∗ (iprop(holds c M1 f1 ∗ holds c M2 f2 ∗ holds c M3 (W f3)) -∗ Q ⟨⟩))
        ⊢ wp frame (wpE (defs₀ (F := F)) Variants.none c none) E
            (cc0__roi_align_kernel i M1 h1 M2 h2 M3 h3) Q)
      ∧ (∀ f3 : Held (F := F) c M3, W f3 = W M3.view.junk)
      ∧ (¬ samples (roisAt c i M1 f1) → ∀ f3 : Held (F := F) c M3, M3.view.read (Elt F) (W f3) = k0_pay3) } := by
  refine ⟨?W, fun f3 E Q => ?run, ?whatever, ?skip⟩
  case run =>
    simp only [cc0__roi_align_kernel_eq_skeleton]; unfold cc0__roi_align_kernel_skel
    iintro ⟨H1, H2, H3, Hk⟩
    sl_exec!
    sl_step
    iapply Hk
    isplitl [H1]; · iexact H1
    isplitl [H2]; · iexact H2
    iexact H3
  case whatever =>
    intro f3
    dsimp only
    split
    · exact Memref.writes_eq_junk_of_covChk h3 f3 _ (.leaf 49) (by rfl)
    · exact Memref.writes_eq_junk_of_covChk h3 f3 _ (.leaf 0) (by rfl)
  case skip =>
    intro hC f3
    dsimp only
    split
    · exact absurd ‹_› hC
    · funext y
      have hy : y ∈ (Rect.unit (s := S1x50x7x7x192) ![0, 0, 0, 0, 0] S1x50x7x7x192.size
          inb_S1x50x7x7x192_S1x50x7x7x192_0_0_0_0_0).set := by
        rw [Rect.mem_set_unit]
        intro a
        fin_cases a <;> exact ⟨Nat.zero_le _, lt_of_lt_of_eq (y _).isLt (Nat.zero_add _).symm⟩
      obtain ⟨x, rfl⟩ : ∃ x, (Rect.unit (s := S1x50x7x7x192) ![0, 0, 0, 0, 0] S1x50x7x7x192.size
          inb_S1x50x7x7x192_S1x50x7x7x192_0_0_0_0_0).emb x = y :=
        (Rect.unit (s := S1x50x7x7x192) ![0, 0, 0, 0, 0] S1x50x7x7x192.size
          inb_S1x50x7x7x192_S1x50x7x7x192_0_0_0_0_0).exists_idx_of_mem hy
      exact View.read_writes_cons_emb _ _ _ _ _ x

end Cert.KernelIdeal.Hand
-- ==== Proof.KernelIdealLaunch.lean ====
/-
  The launch of the idealized kernel at any value instance `F`: what each window's buffer holds after a grid point, the body's
  obligation at every point from the body's run, and the whole program's run: termination, the two arguments unchanged,
  every counter zero.
-/
module

public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The regions-of-interest window's staging buffer at point `t` is a whole buffer. -/
abbrev whole0 (t : Fin cfg0.N) : (win0_0.stage (cfg0.slots t 0)).IsWhole := hstage0_0 ((cfg0.slots t 0).cast nbuf0_0)
/-- The image row window's staging buffer at point `t` is a whole buffer. -/
abbrev whole1 (t : Fin cfg0.N) : (win0_1.stage (cfg0.slots t 1)).IsWhole := hstage0_1 ((cfg0.slots t 1).cast nbuf0_1)
/-- The output window's staging buffer at point `t` is a whole buffer. -/
abbrev whole2 (t : Fin cfg0.N) : (win0_2.stage (cfg0.slots t 2)).IsWhole := hstage0_2 ((cfg0.slots t 2).cast nbuf0_2)

/-- The body's run at point `t`, from the blocks the pipeline staged there. -/
abbrev runAt (c : Dev nD) (t : Fin cfg0.N) :=
  bodyRun (F := F) c (grid0.coords t) (win0_0.stage (cfg0.slots t 0)) (whole0 t) (win0_1.stage (cfg0.slots t 1)) (whole1 t)
    (win0_2.stage (cfg0.slots t 2)) (whole2 t) ((whole0 t).unread (iblk m c 0 t)) ((whole1 t).unread (iblk m c 1 t))

/-- The output block the body leaves at point `t`. -/
def outAt (c : Dev nD) (t : Fin cfg0.N) : S1x50x7x7x192.Idx → Elt F .f32 :=
  (win0_2.stage (cfg0.slots t 2)).view.read (Elt F) ((runAt m c t).1 (win0_2.stage (cfg0.slots t 2)).view.junk)

/-- The proof data on core `c`: the arrays as the launch finds them; after a point the two inputs' blocks as fetched and
    the output block as the body's run leaves it; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
    | ⟨_ + 3, h⟩ => absurd h (Nat.not_lt.2 (Nat.le_add_left _ _))
  Φ _ := Pipeline.ΦA spec0 c
  q _ := fullShare
  owed _ := 0

/-- The data's arrays are the launch's. -/
theorem dats_A (c : Dev nD) (w : Fin cfg0.W) : (dats m 0 c).A w = V m c (Pipeline.arrRef spec0 w) := by dsimp only [dats]

/-- The regions-of-interest window's buffer holds its block at every point. -/
theorem before_0 (c : Dev nD) (t : Fin cfg0.N) (d) : (dats m 0 c).before 0 t d = iblk m c 0 t :=
  before0_0_of m (dats m 0 c) (dats_A m c 0) (fun _ => rfl) t d
/-- The image row window's buffer holds its block at every point. -/
theorem before_1 (c : Dev nD) (t : Fin cfg0.N) (d) : (dats m 0 c).before 1 t d = iblk m c 1 t :=
  before0_1_of m (dats m 0 c) (dats_A m c 1) (fun _ => rfl) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at point `t`, from what the pipeline hands it to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    show (dats m 0 c).after 0 t = iblk m c 0 t from rfl,
    show (dats m 0 c).after 1 t = iblk m c 1 t from rfl,
    show (dats m 0 c).after 2 t = outAt m c t from rfl]
  unfold owns
  iintro ⟨HΦ, HO, ⟨%d0, %g0, %e0, H0⟩, ⟨%d1, %g1, %e1, H1⟩, ⟨%d2, %g2, %e2, H2⟩⟩
  obtain rfl := (whole0 t).eq_unread e0
  obtain rfl := (whole1 t).eq_unread e1
  iapply ((runAt m c t).2.1 g2 Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists _; isplitr; swap; · iexact H0
    ipureintro; exact (whole0 t).read_unread _
  isplitl [H1]
  · iexists _; isplitr; swap; · iexact H1
    ipureintro; exact (whole1 t).read_unread _
  iexists _; isplitr; swap; · iexact H2
  ipureintro
  exact congrArg _ ((runAt m c t).2.2.1 g2)

/-- The body table's row at the point is the body there. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run from any memory with zero counters: it terminates, the windows' arrays end as the data's write-backs
    leave them, every other buffer as the launch found it, and every counter is zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main (fun c => (body_obligation m c).loose)
    (fun c w => by fin_cases w <;> rfl) (fun _ _ => rfl) (V m) (hmain m Variants.none) (dats_A m) (fun _ _ => rfl)
    (Q' := _) (fun _ h => h)

/-- The frame of the program: it terminates, both arguments end as they began, and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).1 0).trans (((dats m 0 c).arrAt_in 0 rfl _).trans ((dats_A m c 0).trans (V_main_arg1 m c)))⟩, h.2⟩) (run_main m ρ)

end Cert.KernelIdeal.Hand
-- ==== Proof.Unbounded.lean ====
/-
  Extended reals that are one of the two infinities, and the vertical coordinates of the pooling. A vertical coordinate is
  a quotient by zero, scaled by 511, plus an offset. The quotient is an infinity, the positive factor keeps it one, and no
  offset makes it finite. The kernel's and the reference's test of a coordinate both fail on an infinity.
-/
module

public import Idealize.ShloMosaic.Lib.ValueIdx
public import Idealize.ShloMosaic.PureOps.Contract

@[expose] public section

noncomputable section

namespace Cert.Roi

open Idealize.ShloMosaic

/-- The value is one of the two infinities. -/
def Unbounded (x : EReal) : Prop := x = ⊤ ∨ x = ⊥

/-- A quotient by zero is an infinity, whatever is divided. -/
theorem unbounded_div_zero (x : EReal) : Unbounded (Ideal.div x 0) := by
  unfold Ideal.div Unbounded
  rw [if_pos rfl]
  split
  · exact Or.inl rfl
  · exact Or.inr rfl

/-- A positive multiple of an infinity is an infinity. -/
theorem Unbounded.mul_pos {x k : EReal} (hx : Unbounded x) (hk : 0 < k) : Unbounded (x * k) := by
  rcases hx with rfl | rfl
  · exact Or.inl (EReal.top_mul_of_pos hk)
  · exact Or.inr (EReal.bot_mul_of_pos hk)

/-- An infinity plus anything is an infinity. -/
theorem Unbounded.add {x : EReal} (hx : Unbounded x) (y : EReal) : Unbounded (x + y) := by
  rcases hx with rfl | rfl
  · by_cases hy : y = ⊥
    · exact Or.inr (hy ▸ EReal.add_bot ⊤)
    · exact Or.inl (EReal.top_add_of_ne_bot hy)
  · exact Or.inr (EReal.bot_add y)

/-- The magnitude of an infinity is positive infinity. -/
theorem Unbounded.abs {x : EReal} (hx : Unbounded x) : max x (-x) = ⊤ := by
  rcases hx with rfl | rfl <;> simp

/-- The pattern of positive zero denotes 0. -/
theorem bits_zero : Ideal.ofBits .f32 0x00000000#32 = 0 := by simp [Ideal.ofBits, Ideal.ieee]
/-- The pattern of 511 denotes 511. -/
theorem bits_511 : Ideal.ofBits .f32 0x43FF8000#32 = ((511 : ℝ) : EReal) := by
  simp [Ideal.ofBits, Ideal.ieee, -EReal.coe_mul]; norm_num
/-- The pattern of positive infinity denotes the top element. -/
theorem bits_top : Ideal.ofBits .f32 0x7F800000#32 = ⊤ := by simp [Ideal.ofBits, Ideal.ieee]
/-- The pattern of negative infinity denotes the bottom element. -/
theorem bits_bot : Ideal.ofBits .f32 0xFF800000#32 = ⊥ := by simp [Ideal.ofBits, Ideal.ieee]
/-- The pattern of one denotes 1. -/
theorem bits_one : Ideal.ofBits .f32 0x3F800000#32 = ((1 : ℝ) : EReal) := by
  simp [Ideal.ofBits, Ideal.ieee, -EReal.coe_mul]; norm_num
/-- 511 is positive. -/
theorem bits_511_pos : 0 < Ideal.ofBits .f32 0x43FF8000#32 := by
  rw [bits_511]; exact_mod_cast (by norm_num : (0 : ℝ) < 511)
/-- One minus one is zero. -/
theorem bits_one_sub_one : Ideal.ofBits .f32 0x3F800000#32 - Ideal.ofBits .f32 0x3F800000#32 = 0 := by
  rw [bits_one, ← EReal.coe_sub, sub_self, EReal.coe_zero]

/-- A vertical coordinate, the quotient by zero scaled by 511 and moved by an offset, is an infinity. -/
theorem unbounded_row (y o : EReal) : Unbounded (Ideal.div y 0 * Ideal.ofBits .f32 0x43FF8000#32 + o) :=
  ((unbounded_div_zero y).mul_pos bits_511_pos).add o

/-- The kernel's test fails on an infinity: its "not finite" bit is one, so the flipped bit is zero and so are the meets. -/
theorem kernel_test (y : EReal) (hy : Unbounded y) (a b : BitVec 1) :
    IntOp.andi (IntOp.andi (IntOp.xori (BitVec.ofBool (decide (y = ⊤ ∨ y = ⊥))) 1#1) a) b = 0#1 := by
  have h : decide (y = ⊤ ∨ y = ⊥) = true := decide_eq_true hy
  rw [h]; revert a b; decide

/-- The reference's test fails on an infinity: its magnitude is not below positive infinity. -/
theorem reference_test (y : EReal) (hy : Unbounded y) (a b : BitVec 1) :
    IntOp.andi (IntOp.andi (Ideal.cmp .olt (max y (-y)) ⊤) a) b = 0#1 := by
  have h : Ideal.cmp .olt (max y (-y)) ⊤ = 0#1 := by
    rw [hy.abs]; unfold Ideal.cmp; rw [decide_eq_false (lt_irrefl _)]; rfl
  rw [h]; revert a b; decide

/-- A running maximum from a start that is at most `z`, over elements at most `z`, stays at most `z`. -/
theorem foldl_max_le {ι : Type} (l : List ι) (f : ι → EReal) (z : EReal) (hf : ∀ n, f n ≤ z) :
    ∀ b, b ≤ z → l.foldl (fun r n => max r (f n)) b ≤ z := by
  induction l with
  | nil => exact fun b hb => hb
  | cons n l ih => exact fun b hb => ih _ (max_le hb (hf n))

/-- A maximum reduction from negative infinity, over elements at most `z`, is at most `z` everywhere. -/
theorem reduction_max_le {s t : Shape} {axes : List (Fin s.rank)} (x : FVec Ideal s .f32) (z : EReal) (hx : ∀ i, x i ≤ z)
    (h : s.Reduces axes t) (hφ : FKind.Formats .f32) (hacc : 0xFF800000#32 = FKind.maximumf.neutral .f32 hφ) (j : t.Idx) :
    multiReduction .maximumf axes t x 0xFF800000#32 h hφ hacc j ≤ z :=
  foldl_max_le _ (fun n => x (s.rowMajor.symm n)) z (fun _ => hx _) _
    (le_of_eq_of_le (show Ideal.ofBits .f32 0xFF800000#32 = ⊥ from bits_bot) bot_le)

end Cert.Roi
-- ==== Proof.KernelIdealValue.lean ====
/-
  The kernel's result over the extended reals. Every row coordinate is an infinity, so no row passes the test, the sampling
  branch is not taken at any grid point, each block stays the zero fill, and the six blocks tile the result.
-/
module

public import proofs.«01_k».proof.Proof.KernelIdealLaunch
public import proofs.«01_k».proof.Proof.Unbounded
public import Idealize.ShloMosaic.Lib.Pipeline.Value

@[expose] public section

set_option maxRecDepth 16384

noncomputable section

namespace Cert.KernelIdeal.Hand

open Cert.KernelIdeal Cert.KernelIdeal.Gen Cert.Roi
open Idealize.ShloMosaic Idealize.ShloMosaic.TcCoe
open Idealize.SL Idealize.SL.Sem
open Idealize.ShloMosaic.Pipeline (Dat Cfg Window)

/-- Every row coordinate the kernel computes is an infinity. -/
theorem unbounded_ys (r : Vec Ideal S1x50x4 .f32) (i : S50x7.Idx) : Unbounded (k0_pay84 (F := Ideal) r i) := by
  have h : ∀ y o : EReal, Unbounded (Ideal.div y (Ideal.ofBits .f32 0x00000000#32) * Ideal.ofBits .f32 0x43FF8000#32 + o) := by
    intro y o; rw [bits_zero]; exact unbounded_row y o
  unfold k0_pay84
  exact h _ _

/-- No row coordinate passes the kernel's test. -/
theorem no_row (r : Vec Ideal S1x50x4 .f32) (i : S50x7.Idx) :
    k0_pay1 (k0_pay84 (F := Ideal) r) (k0_pay86 r) (constantI S50x7 1 1#1) i = 0#1 :=
  kernel_test _ (unbounded_ys r i) _ _

/-- The maximum of the tests, as numbers, is not above zero. -/
theorem any_row_le (r : Vec Ideal S1x50x4 .f32) :
    k0_pay4 (k0_pay84 (F := Ideal) r) (k0_pay86 r) (constantI S50x7 1 1#1) ≤ (0 : EReal) := by
  unfold k0_pay4
  refine reduction_max_le _ 0 (fun i => ?_) reduces_S1x50x7_S1 (.inl rfl) rfl _
  have h : ∀ j, select (k0_pay1 (k0_pay84 (F := Ideal) r) (k0_pay86 r) (constantI S50x7 1 1#1))
      (broadcast S50x7 (Scalar.ofBits (F := Ideal) .f32 0x3F800000#32)) (broadcast S50x7 (Scalar.ofBits (F := Ideal) .f32 0x00000000#32)) j
      = (0 : EReal) := fun j => by
    unfold select
    rw [no_row]
    exact bits_zero
  exact le_of_eq (h _)

/-- The kernel never takes its sampling branch. -/
theorem not_samples (r : Vec Ideal S1x50x4 .f32) : ¬ samples r := by
  have h : Scalar.cmpf .ogt (k0_pay4 (k0_pay84 (F := Ideal) r) (k0_pay86 r) (constantI S50x7 1 1#1))
      (Scalar.ofBits .f32 0x00000000#32) = 0#1 := by
    show Ideal.cmp .ogt _ (Ideal.ofBits .f32 0x00000000#32) = 0#1
    rw [bits_zero]; unfold Ideal.cmp
    rw [decide_eq_false (not_lt.2 (any_row_le r))]; rfl
  unfold samples
  rw [h]; decide

variable (m : (ℓ : Loc nD τ sig) → Buf (Elt Ideal) ℓ) (ρ : Dev nD → PrngReg)

/-- The block the body leaves at any grid point is zero. -/
theorem outAt_zero (c : Dev nD) (t : Fin cfg0.N) : outAt m c t = fun _ => (0 : EReal) := by
  unfold outAt
  rw [(runAt m c t).2.2.2 (not_samples _)]
  funext i
  exact bits_zero

/-- What is written back at a grid point is that block of the zero array. -/
theorem flushed_zero (c : Dev nD) (t : Fin cfg0.N) :
    (dats m 0 c).flushed 2 t = (win0_2.blk t).view.read (Elt Ideal) (fun _ => (0 : EReal)) := by
  show (cfg0.win 2).cut (grid0.coords t) ((dats m 0 c).after 2 t) = _
  rw [show (dats m 0 c).after 2 t = fun _ => (0 : EReal) from outAt_zero m c t]
  rfl

/-- An index of the result lies in point `t`'s block exactly when its region index is one of the 50 from `50 t` on. -/
theorem mem_block (t : Fin cfg0.N) (i : S1x300x7x7x192.Idx) :
    i ∈ ((cfg0.win 2).blk t).view.set ↔ t.val * 50 ≤ (i 1 : Nat) ∧ (i 1 : Nat) < t.val * 50 + 50 := by
  show i ∈ ((View.whole main_v1).slice (win0_2.rect t)).set ↔ _
  rw [View.set_slice_whole, Rect.mem_set_unit]
  have e : ∀ a : Fin 5, win0_2.index t a * win0_2.size a = (![0, t.val * 50, 0, 0, 0] : Fin 5 → Nat) a
      ∧ win0_2.xsize (grid0.coords t) a = (![1, 50, 7, 7, 192] : Fin 5 → Nat) a := by
    rcases fin_N0 t with rfl | rfl | rfl | rfl | rfl | rfl <;> decide +kernel
  have h : ∀ a : Fin 5, (win0_2.index t a * win0_2.size a ≤ (i a : Nat)
      ∧ (i a : Nat) < win0_2.index t a * win0_2.size a + win0_2.xsize (grid0.coords t) a)
      ↔ ((![0, t.val * 50, 0, 0, 0] : Fin 5 → Nat) a ≤ (i a : Nat)
      ∧ (i a : Nat) < (![0, t.val * 50, 0, 0, 0] : Fin 5 → Nat) a + (![1, 50, 7, 7, 192] : Fin 5 → Nat) a) := fun a => by
    rw [(e a).1, (e a).2]
  have b0 : (i 0 : Nat) < 1 := (i 0).isLt
  have b2 : (i 2 : Nat) < 7 := (i 2).isLt
  have b3 : (i 3 : Nat) < 7 := (i 3).isLt
  have b4 : (i 4 : Nat) < 192 := (i 4).isLt
  refine ⟨fun hi => (h 1).1 (hi 1), fun hi a => (h a).2 ?_⟩
  match a with
  | ⟨0, _⟩ => exact ⟨Nat.zero_le _, b0⟩
  | ⟨1, _⟩ => exact hi
  | ⟨2, _⟩ => exact ⟨Nat.zero_le _, b2⟩
  | ⟨3, _⟩ => exact ⟨Nat.zero_le _, b3⟩
  | ⟨4, _⟩ => exact ⟨Nat.zero_le _, b4⟩

/-- The six blocks cover the result. -/
theorem blocks_cover (i : S1x300x7x7x192.Idx) :
    ∃ t : Fin cfg0.N, (cfg0.win 2).flush t = true ∧ i ∈ ((cfg0.win 2).blk t).view.set := by
  have h1 : (i 1 : Nat) < 300 := (i 1).isLt
  have hN : cfg0.N = 6 := N_0
  refine ⟨⟨(i 1 : Nat) / 50, by omega⟩, flush0_2 _, ?_⟩
  rw [mem_block]
  dsimp only
  omega

/-- The result array ends zero. -/
theorem result_zero (c : Dev nD) : (dats m 0 c).arrAt 2 cfg0.N = fun _ => (0 : EReal) :=
  (dats m 0 c).arrAt_eq_of_cover 2 (fun _ => (0 : EReal)) (fun t _ => flushed_zero m c t) blocks_cover

/-- The run over the extended reals: the result is zero at every element and both arguments end as they began. -/
theorem run_zero : θ_run defs (onTc (τ := τ) (main (F := Ideal))) ⟨m, fun _ => 0, ρ⟩ (fun r => ∀ c : Dev nD,
      r.2.mem ((c.tc : Thread nD τ).loc main_v1) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).1 2).trans (result_zero m c),
      ((h.1 c).2 main_arg0 (Pipeline.mem_restRefs_of main_arg0 (by decide) (by decide))).trans (V_main_arg0 m c),
      ((h.1 c).1 0).trans (((dats m 0 c).arrAt_in 0 rfl _).trans ((dats_A m c 0).trans (V_main_arg1 m c)))⟩) (run_main m ρ)

end Cert.KernelIdeal.Hand
-- ==== Proof.ReferenceIdealValue.lean ====
/-
  The reference's result over the extended reals. The divisor of the row coordinates is the image's height less one, which
  is zero, so each is an infinity, fails the reference's test, and leaves the selection at its zero.
-/
module

public import proofs.«01_k».proof.Proof.Gen.ReferenceIdeal.Run
public import proofs.«01_k».proof.Proof.Unbounded
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Value Cert.Roi
open Idealize.ShloMosaic Idealize.ShloMosaic.TcCoe Idealize.SL.Sem Idealize.ShloMosaic.StableHlo

/-- The first of the four columns of the scaled corners is a quotient by zero. -/
theorem corner_top (V0 : Valuation τ sig (Elt Ideal)) (j : S300x4.Idx) (hj : (j 1).val = 0) :
    ∃ y : EReal, res_main_v26 (F := Ideal) V0 j = Ideal.div y 0 := by
  let i : S300x1.Idx := fun a => match a with
    | ⟨0, _⟩ => j 0
    | ⟨1, _⟩ => (⟨0, Nat.one_pos⟩ : Fin 1)
  unfold res_main_v26
  rw [concatenate_apply_piece (t := S300x4) 1 _ _ j 0 (by simp) S300x1 _ rfl rfl 0 rfl i
    (fun b hb => by
      match b with
      | ⟨0, _⟩ => rfl
      | ⟨1, _⟩ => exact absurd rfl hb)
    (by rw [hj]; rfl)]
  exact ⟨_, congrArg (Ideal.div _) bits_one_sub_one⟩

/-- The scaled top corner of a region is a quotient by zero. -/
theorem top_corner (V0 : Valuation τ sig (Elt Ideal)) (n : S300.Idx) :
    ∃ y : EReal, res_main_v28 (F := Ideal) V0 n = Ideal.div y 0 := by
  unfold res_main_v28 shapeCast extractStridedSlice
  refine corner_top V0 _ ?_
  show 0 + ((Shape.reshapeEquiv shapeCasts_S300x1_S300 n) 1).val = 0
  have h : ((Shape.reshapeEquiv shapeCasts_S300x1_S300 n) 1).val < 1 := ((Shape.reshapeEquiv shapeCasts_S300x1_S300 n) 1).isLt
  omega

/-- Every row coordinate the reference computes is an infinity. -/
theorem unbounded_rows (V0 : Valuation τ sig (Elt Ideal)) (i : S300x7.Idx) : Unbounded (res_main_v55 (F := Ideal) V0 i) := by
  have h : ∀ q o : EReal, (∃ y : EReal, q = Ideal.div y 0) → Unbounded (q * Ideal.ofBits .f32 0x43FF8000#32 + o) := by
    rintro q o ⟨y, rfl⟩; exact unbounded_row y o
  unfold res_main_v55
  exact h _ _ (top_corner V0 _)

/-- No row coordinate passes the reference's test. -/
theorem no_row (V0 : Valuation τ sig (Elt Ideal)) (i : S300x7.Idx) : res_main_v74 (F := Ideal) V0 i = 0#1 := by
  have h : ∀ y : EReal, Unbounded y → ∀ a b : BitVec 1,
      IntOp.andi (IntOp.andi (Ideal.cmp .olt (max y (-y)) (Ideal.ofBits .f32 0x7F800000#32)) a) b = 0#1 := by
    intro y hy a b; rw [bits_top]; exact reference_test y hy a b
  unfold res_main_v74
  exact h _ (unbounded_rows V0 i) _ _

/-- A selection whose mask is the meet of a row mask that is zero everywhere and any column mask is its other arm, zero. -/
theorem masked (rows cols : IVec S300x7 1) (hr : ∀ i, rows i = 0#1) (a : FVec Ideal S300x7x7x192 .f32) :
    (shapeCast S1x300x7x7x192 (select (broadcastInDim S300x7x7x192 ![0, 1, 2, 3] bcast_S300x7x7x1_S300x7x7x192_0_1_2_3
      (broadcastInDim S300x7x7x1 ![0, 1, 2] bcast_S300x7x7_S300x7x7x1_0_1_2
        (andi (broadcastInDim S300x7x7 ![0, 1, 2] bcast_S300x7x1_S300x7x7_0_1_2 (broadcastInDim S300x7x1 ![0, 1] bcast_S300x7_S300x7x1_0_1 rows))
          (broadcastInDim S300x7x7 ![0, 1, 2] bcast_S300x1x7_S300x7x7_0_1_2 (broadcastInDim S300x1x7 ![0, 2] bcast_S300x7_S300x1x7_0_2 cols)))))
      a (broadcastInDim S300x7x7x192 ![] bcast_S_S300x7x7x192 (id (constant (F := Ideal) S_ .f32 0x00000000#32))))
      shapeCasts_S300x7x7x192_S1x300x7x7x192) = fun _ => (0 : EReal) := by
  have meet : ∀ (i : S300x7.Idx) (b : BitVec 1), IntOp.andi (rows i) b = 0#1 := fun i b => by
    rw [hr]; revert b; decide
  have pick : ∀ (i : S300x7.Idx) (b : BitVec 1) (x : EReal),
      (if IntOp.andi (rows i) b = 1#1 then x else Ideal.ofBits .f32 0x00000000#32) = 0 := fun i b x => by
    rw [meet, bits_zero]; rfl
  funext i
  exact pick _ _ _

/-- The reference's run over the extended reals: the result is zero at every element and both arguments end as they began. -/
theorem run_zero (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v190) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (masked _ _ (no_row _) _), (h c).2⟩) (run m ρ)

/-- The reference's frame: it terminates, both arguments end as they began, and every counter is zero. -/
theorem frame_run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (run m ρ)

end Cert.ReferenceIdeal.Hand
-- ==== Proof.lean ====
/-
  The proof of `Cert.Claim`: the three programs' frames, the kernel's idealized program against the kernel (one program,
  nothing replaced), and the idealized kernel against the reference over the extended reals, where both results are zero.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealValue
public import proofs.«01_k».proof.Proof.ReferenceIdealValue
public import Idealize.ShloMosaic.Adequacy
public import Idealize.ShloMosaic.Init

@[expose] public section

noncomputable section

namespace Cert.Proof

open Idealize.ShloMosaic Idealize.SL.Sem Cert.Kernel

/-- Every claim of the certificate: the frames from the runs, nothing to preserve, and one value, zero, for both results. -/
theorem claim : Cert.Claim := ⟨Cert.Kernel.Gen.facts, Cert.KernelIdeal.Gen.facts, Cert.ReferenceIdeal.Gen.facts,
  fun m g _ => Cert.Kernel.Hand.frame_run m g,
  fun m g _ => Cert.KernelIdeal.Hand.frame_run m g,
  fun m g _ => Cert.ReferenceIdeal.Hand.frame_run m g,
  trivial,
  fun m g m' g' _ _ => ⟨fun _ _ => (0 : EReal), Cert.KernelIdeal.Hand.run_zero m g, Cert.ReferenceIdeal.Hand.run_zero m' g'⟩⟩

end Cert.Proof

end
